-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1x2048x32000 : Shape := ⟨3, ![1, 2048, 32000]⟩
abbrev S2048x32000 : Shape := ⟨2, ![2048, 32000]⟩
abbrev S96x32000 : Shape := ⟨2, ![96, 32000]⟩

abbrev nBuf : Space → Nat
  | .hbm => 4
  | .vmem => 4
  | .smem => 0
  | _ => 0

abbrev bufTy : (tb : Table) → Fin (tcTables nBuf tb) → BufTy
  | .hbm, ⟨0, _⟩ => ⟨S1x2048x32000, .f32⟩
  | .hbm, ⟨1, _⟩ => ⟨S2048x32000, .f32⟩
  | .hbm, ⟨2, _⟩ => ⟨S2048x32000, .f32⟩
  | .hbm, ⟨3, _⟩ => ⟨S1x2048x32000, .f32⟩
  | .local _ .vmem, ⟨0, _⟩ => ⟨S96x32000, .f32⟩
  | .local _ .vmem, ⟨1, _⟩ => ⟨S96x32000, .f32⟩
  | .local _ .vmem, ⟨2, _⟩ => ⟨S96x32000, .f32⟩
  | .local _ .vmem, ⟨3, _⟩ => ⟨S96x32000, .f32⟩
  | _, _ => ⟨S1x2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S1x2048x32000 : Shape := ⟨3, ![1, 2048, 32000]⟩

abbrev nBuf : Space → Nat
  | .hbm => 1
  | .vmem => 0
  | .smem => 0
  | _ => 0

abbrev bufTy : (tb : Table) → Fin (tcTables nBuf tb) → BufTy
  | .hbm, ⟨0, _⟩ => ⟨S1x2048x32000, .f32⟩
  | _, _ => ⟨S1x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.CopyStep.lean ====
/- One grid point of the copy kernel, at any float values.

   The kernel walks the 2048 rows in 22 blocks of 96 rows; the last block has only 32 rows inside the array, and what
   its staging buffers hold past them is unknown. This module says what the kernel's body does to its two staging
   buffers (`body_copies`), states the pipeline's proof data (`dats`), and proves the body's obligation at every point
   (`obligation`): on the rows inside the array, the result's buffer ends holding what the argument's buffer holds. -/
module

public import proofs.«01_k».proof.Proof.Gen.Kernel.Skeleton
public import proofs.«01_k».proof.Proof.Gen.Kernel.Frame
public import Idealize.ShloMosaic.Lib.Pipeline.Value
public import Idealize.ShloMosaic.Lib.Pointwise.Reshape

@[expose] public section

noncomputable section

namespace Cert.Copy

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The body -/

/-- The word that the proof data puts past the array's end. Nothing reads it: the obligations speak of the rows inside
    the array only. -/
abbrev pad : S96x32000.Idx → Elt F .f32 := fun _ => Scalar.ofBits .f32 0#32

/-- The rectangle of the body's load and store is the whole buffer. -/
abbrev whole96 : Rect S96x32000 := Rect.unit (s := S96x32000) ![0, 0] S96x32000.size inb_S96x32000_S96x32000_0_0

/-- Its offsets are zero. -/
theorem offsets_zero : (![0, 0] : Fin 2 → Nat) = fun _ => 0 := by funext a; fin_cases a <;> rfl

/-- What the body stores, computed from contents `x` loaded through the whole rectangle, is `x`. -/
theorem stored_eq (x : S96x32000.Idx → Elt F .f32) :
    View.canon (Val := Elt F) (e := .f32) [⟨whole96, k0_pay1 (View.ld x whole96)⟩] = x := by
  rw [View.canon_unit_zero offsets_zero]
  show shapeCast S96x32000 (View.ld x whole96) shapeCasts_S96x32000_S96x32000 = x
  rw [View.ld_unit_zero offsets_zero]
  exact shapeCast_id x _

/-- The store covers the buffer. -/
theorem store_covers (w : S96x32000.Idx → Elt F .f32) (y : S96x32000.Idx) :
    ∃ p ∈ ([⟨whole96, w⟩] : List (View.Piece (Elt F) S96x32000 .f32)), y ∈ p.1.set :=
  View.cover_of_tiled [⟨whole96, w⟩] S96x32000.size (by rfl) y

set_option maxHeartbeats 1000000 in
/-- The body on two whole staging buffers, the first holding `x`: it ends with both holding `x`. -/
theorem body_copies (c : Dev nD) (E : Set ℕ) (i : grid0.Coords)
    (src : Memref sig .tc .vmem S96x32000 .f32) (hsrc : src.IsWhole)
    (dst : Memref sig .tc .vmem S96x32000 .f32) (hdst : dst.IsWhole)
    (x : S96x32000.Idx → Elt F .f32) (K : PUnit → sProp 𝕄) :
    iprop(owns (c : Thread nD τ) src fullShare x ∗ (∃ y, owns (c : Thread nD τ) dst fullShare y)
        ∗ (iprop(owns (c : Thread nD τ) src fullShare x ∗ owns (c : Thread nD τ) dst fullShare x) -∗ K ⟨⟩))
      ⊢ wp frame (wpE (defs₀ (F := F)) Variants.none c none) E (cc0__copy_body i src hsrc dst hdst) K := by
  simp only [cc0__copy_body_eq_skeleton]; unfold cc0__copy_body_skel
  unfold owns
  iintro ⟨⟨%f, %hf, Hsrc⟩, ⟨%y, %g, -, Hdst⟩, Hk⟩
  subst hf
  sl_exec
  sl_step
  iapply Hk
  isplitl [Hsrc]
  · iexists f; isplitr; · ipureintro; rfl
    iexact Hsrc
  · iexists _; isplitr
    swap; · iexact Hdst
    ipureintro
    exact (View.read_writes_eq_canon _ _ _ (store_covers _)).trans (stored_eq _)

/-! ## The proof data -/

/-- What both staging buffers hold after the body at point `t`, on the rows inside the array: the point's block of the
    reshaped argument, as the region finds it. -/
def block (c : Dev nD) (t : Fin cfg0.N) : S96x32000.Idx → Elt F .f32 :=
  win0_0.fill (grid0.coords t) pad (iblk m c 0 t)

/-- The pipeline's proof data on core `c`: the arrays as the region finds them, both staging buffers at the point's
    block after the body, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => block m c t
    | ⟨1, _⟩ => block m c t
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- After the body at `t` the argument's buffer holds the point's block. -/
theorem after_in (c : Dev nD) (t : Fin cfg0.N) : (dats m 0 c).after 0 t = block m c t := by dsimp only [dats]
/-- So does the result's. -/
theorem after_out (c : Dev nD) (t : Fin cfg0.N) : (dats m 0 c).after 1 t = block m c t := by dsimp only [dats]

/-- The body finds the argument's buffer just fetched: the block on the rows inside the array, anything past them. -/
theorem before_in (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq]

/-! ## The obligation -/

/-- The body at point `t`, named by its staging buffers. -/
theorem body_row (t : Fin cfg0.N) : defs₀ (F := F) .tc cfg0.body (cfg0.bodyArgs t (cfg0.slots t)) = bodyAt0 t := by
  unfold defs₀; rw [Defs.onTc_tc]

/-- On the rows inside the array, what either buffer is left at is the point's block. -/
theorem cut_block (c : Dev nD) (t : Fin cfg0.N) : win0_0.cut (grid0.coords t) (block m c t) = iblk m c 0 t :=
  win0_0.cut_fill _ _ _

/-- At every point the body, from the buffers as the pipeline hands them over, leaves both buffers at the point's block
    on the rows inside the array. -/
theorem obligation (c : Dev nD) : BodyObligationLoose (dats (F := F) m 0 c) (defs₀ (F := F)) Variants.none () Set.univ := fun t => by
  rw [bigSep_W0, bigSep_W0, body_row]
  change iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d)))
    ⊢ wp frame (wpE (defs₀ (F := F)) Variants.none c none) Set.univ (bodyAt0 t) fun _ =>
      iprop((dats m 0 c).Φ t.castSucc ∗ (dats m 0 c).owesAt () t.castSucc
        ∗ (∃ d, owns (c : Thread nD τ) (st0_0 t) fullShare
            (win0_0.fill (grid0.coords t) d (win0_0.cut (grid0.coords t) (block m c t))))
        ∗ (∃ d, owns (c : Thread nD τ) (st0_1 t) fullShare
            (win0_0.fill (grid0.coords t) d (win0_0.cut (grid0.coords t) (block m c t)))))
  rw [cut_block]
  unfold bodyAt0
  iintro ⟨HΦ, Ho, ⟨%d0, H0⟩, ⟨%d1, H1⟩⟩
  rw [before_in]
  iapply (body_copies c Set.univ (grid0.coords t) _ _ _ _ (win0_0.fill (grid0.coords t) d0 (iblk m c 0 t)) _)
  isplitl [H0]; · iexact H0
  isplitl [H1]; · iexists _; iexact H1
  iintro ⟨H0, H1⟩
  isplitl [HΦ]; · iexact HΦ
  isplitl [Ho]; · iexact Ho
  isplitl [H0]
  · iexists d0; iexact H0
  · iexists d0; iexact H1

end Cert.Copy

end
-- ==== Proof.CopyArray.lean ====
/- The copy kernel's whole run, at any float values.

   `result_array`: the 22 write-backs leave the pallas_call's result equal to its operand, all 2048 rows. `run`: @main
   terminates, its result equals its argument word for word, the argument is unchanged and every semaphore counter is
   zero. -/
module

public import proofs.«01_k».proof.Proof.CopyStep
public import Idealize.ShloMosaic.Lib.Pipeline.ValueKit.Geometry
public import Idealize.ShloMosaic.Lib.Pointwise.Reshape

@[expose] public section

noncomputable section

namespace Cert.Copy

open Cert.Kernel Cert.Kernel.Gen

open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The arrays -/

/-- The result's blocks, the cut last one included, cover its 2048 rows. -/
theorem blocks_cover : win0_1.Covers := by decide +kernel

/-- After the last write-back the pallas_call's result holds its operand. -/
theorem result_array (c : Dev nD) : (dats m 0 c).arrAt 1 cfg0.N = V m c main_v0 := by
  refine (dats m 0 c).arrAt_eq_of_covers 1 _ blocks_cover fun t _ y => ?_
  rw [after_out]
  exact congrFun (cut_block m c t) y

/-- The pallas_call's operand is the argument at the shape of a matrix. -/
theorem operand_eq (c : Dev nD) :
    V m c main_v0 = shapeCast S2048x32000 (m ((c : Thread nD τ).loc main_arg0)) shapeCasts_S1x2048x32000_S2048x32000 := by
  show StableHlo.after [StableHlo.reshape main_arg0 main_v0 (rfl : (.f32 : EltTy) = .f32) shapeCasts_S1x2048x32000_S2048x32000]
    (fun b => m (c, b)) (Proc.devRef .tc main_v0) = _
  rw [StableHlo.after_cons, StableHlo.after_nil, StableHlo.reshape_result]
  rfl

/-- @main's result is the argument: the reshape after the pallas_call undoes the one before it. -/
theorem result_eq (c : Dev nD) :
    Pipeline.afterTail₀ cfgs (dats m) 0 (V0 m) [hostOps1] c main_v2 = m ((c : Thread nD τ).loc main_arg0) := by
  unfold Pipeline.afterTail₀
  show StableHlo.after [StableHlo.reshape main_v1 main_v2 (rfl : (.f32 : EltTy) = .f32) shapeCasts_S2048x32000_S1x2048x32000]
    (Pipeline.withArrays spec0 c (V0 m c) fun w => (dats m 0 c).arrAt w cfg0.N) (Proc.devRef .tc main_v2) = _
  rw [StableHlo.after_cons, StableHlo.after_nil, StableHlo.reshape_result]
  have h := Pipeline.withArrays_arr spec0 launch0.win.arr_inj c (V0 m c) (fun w => (dats m 0 c).arrAt w cfg0.N) 1
  show shapeCast S1x2048x32000 (Pipeline.withArrays spec0 c (V0 m c) (fun w => (dats m 0 c).arrAt w cfg0.N)
    (Proc.devRef .tc (Pipeline.arrRef spec0 1))) shapeCasts_S2048x32000_S1x2048x32000 = _
  rw [h, result_array, operand_eq]
  exact (shapeCast_comp _ _ _).trans (shapeCast_id _ _)

/-! ## The run -/

set_option backward.isDefEq.respectTransparency.types false in
set_option maxHeartbeats 800000 in
/-- The launch: at every final state the arrays and the other buffers are as the library computes them from the proof
    data, and every semaphore counter is zero. -/
theorem launch_run : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- From any memory with zero counters @main terminates without fault; its result ends equal to the argument's initial
    contents, the argument ends unchanged, and every semaphore counter ends at zero. -/
theorem run : θ_run defs (onTc (τ := τ) (main (F := F))) ⟨m, fun _ => 0, ρ⟩ (fun r =>
    (∀ c : Dev nD, r.2.mem ((c.tc : Thread nD τ).loc main_v2) = m ((c.tc : Thread nD τ).loc main_arg0)
      ∧ r.2.mem ((c.tc : Thread nD τ).loc main_arg0) = m ((c.tc : Thread nD τ).loc main_arg0))
    ∧ r.2.sem = fun _ => 0) :=
  (θ_run defs _ _).mono (fun r h => ⟨fun c =>
    ⟨((h.1 c).2 main_v2 (Pipeline.mem_restRefs_of main_v2 (by decide) (by decide))).trans (result_eq m c),
      ((h.1 c).2 main_arg0 (Pipeline.mem_restRefs_of main_arg0 (by decide) (by decide))).trans (W_main_arg0 m (dats m) c)⟩,
    h.2⟩) (launch_run m ρ)

end Cert.Copy

end
-- ==== Proof.lean ====
module

public import proofs.«01_k».proof.Defs
public import proofs.«01_k».proof.Proof.CopyArray
public import proofs.«01_k».proof.Proof.Gen.KernelIdeal
public import proofs.«01_k».proof.Proof.Gen.ReferenceIdeal
public import Idealize.ShloMosaic.Lib.Claim
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
/-- The reference states no side condition. -/
instance referenceFacts : Cert.Reference.Facts := { toFacts₀ := {} }
instance : Cert.ReferenceIdeal.Facts := Cert.ReferenceIdeal.Gen.facts

/-- The idealized kernel's body table is the kernel's read at the extended reals. -/
theorem bodies_eq : Cert.KernelIdeal.defs₀ (F := Ideal) = Cert.Kernel.defs₀ (F := Ideal) := by
  unfold Cert.KernelIdeal.defs₀ Cert.Kernel.defs₀
  congr 1
  funext ℓ x
  fin_cases ℓ
  rfl

/-- So is the table with the pipeline added. -/
theorem tables_eq : Cert.KernelIdeal.defs (F := Ideal) = Cert.Kernel.defs (F := Ideal) :=
  congrArg (Pipeline.defs (Cert.Kernel.pcfgs (F := Ideal))) bodies_eq

/-- The idealized kernel from any memory with zero counters: its result ends equal to its argument, the argument ends
    unchanged and every semaphore counter ends at zero. -/
theorem run_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => (∀ c : Dev Cert.KernelIdeal.nD,
        r.2.mem ((c.tc : Thread Cert.KernelIdeal.nD Cert.KernelIdeal.τ).loc Cert.KernelIdeal.main_v2)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0) := by
  have h := Cert.Copy.run (F := Ideal) m g
  rw [← tables_eq] at h
  exact h

/-- The kernel terminates with its argument unchanged and every semaphore counter at zero. -/
theorem kernel_quiescent : Cert.quiescent_Kernel := fun m g _ =>
  (θ_run _ _ _).mono (fun _ h => ⟨fun c => (h.1 c).2, h.2⟩) (Cert.Copy.run m g)

/-- So does its idealization. -/
theorem kernel_ideal_quiescent : Cert.quiescent_KernelIdeal := fun m g _ =>
  (θ_run _ _ _).mono (fun _ h => ⟨fun c => (h.1 c).2, h.2⟩) (run_ideal m g)

/-- The reference from any memory with zero counters, at any float values: it ends with its argument unchanged, and with
    every semaphore counter at zero, since it has no semaphore. -/
theorem reference_run {F : FTy → Type} [FloatOps F]
    (m : (ℓ : Loc Cert.Reference.nD Cert.Reference.τ Cert.Reference.sig) → Buf (Elt F) ℓ)
    (g : Dev Cert.Reference.nD → PrngReg) :
    θ_run (Cert.Reference.defs (F := F)) (onTc (τ := Cert.Reference.τ) (Cert.Reference.main (F := F)))
      ⟨m, fun _ => 0, g⟩ (fun r => (∀ c : Dev Cert.Reference.nD,
        r.2.mem ((c.tc : Thread Cert.Reference.nD Cert.Reference.τ).loc Cert.Reference.main_arg0)
          = m ((c.tc : Thread Cert.Reference.nD Cert.Reference.τ).loc Cert.Reference.main_arg0))
      ∧ r.2.sem = fun _ => 0) :=
  (θ_run _ _ _).mono (fun r h => ⟨fun c => h c Cert.Reference.main_arg0, sem_eq_zero_of_no_sems (by decide) r.2⟩)
    (StableHlo.run_hlo Cert.Reference.defs Cert.Reference.main (ops := []) (fun _ => StableHlo.IsSeq.nil) (by decide)
      (by decide) trivial (fun _ h => nomatch h) m g)

/-- The reference's idealization terminates with its argument unchanged and every semaphore counter at zero. -/
theorem reference_ideal_quiescent : Cert.quiescent_ReferenceIdeal := fun m g _ => reference_run (F := Ideal) m g

/-- So does the reference. -/
theorem reference_quiescent : Cert.quiescent_Reference := fun m g _ => reference_run m g

/-- At the extended reals the kernel and the reference end with equal results, both the argument. -/
theorem algebraic : Cert.algebraic_KernelIdeal_ReferenceIdeal := fun m g m' g' hP hagree =>
  ⟨fun c => m ((c.tc : Thread Cert.KernelIdeal.nD Cert.KernelIdeal.τ).loc Cert.KernelIdeal.main_arg0),
    (θ_run _ _ _).mono (fun _ h c => h.1 c) (run_ideal m g),
    (θ_run _ _ _).mono (fun _ h c => ⟨(h.1 c).trans (hagree c), h.1 c⟩) (reference_ideal_quiescent m' g' trivial)⟩

/-- At the words the kernel and the reference end with equal results, both the argument. -/
theorem bitexact : Cert.bitexact_Kernel_Reference := fun m g m' g' hP hagree =>
  ⟨fun c => m ((c.tc : Thread Cert.Kernel.nD Cert.Kernel.τ).loc Cert.Kernel.main_arg0),
    (θ_run _ _ _).mono (fun _ h c => h.1 c) (Cert.Copy.run m g),
    (θ_run _ _ _).mono (fun _ h c => ⟨(h.1 c).trans (hagree c), h.1 c⟩) (reference_quiescent m' g' trivial)⟩

/-- Everything the certificate claims. -/
theorem claim : Cert.Claim :=
  ⟨Cert.Kernel.Gen.facts, Cert.KernelIdeal.Gen.facts, Cert.ReferenceIdeal.Gen.facts, referenceFacts,
    kernel_quiescent, kernel_ideal_quiescent, reference_ideal_quiescent, reference_quiescent, trivial, algebraic, bitexact⟩

end Cert.Proof

end
